-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1x6144 : Shape := ⟨3, ![8192, 1, 6144]⟩
abbrev S6144 : Shape := ⟨1, ![6144]⟩
abbrev S768x16384 : Shape := ⟨2, ![768, 16384]⟩
abbrev S96x16384 : Shape := ⟨2, ![96, 16384]⟩
abbrev S96x2048 : Shape := ⟨2, ![96, 2048]⟩
abbrev S8192x6144 : Shape := ⟨2, ![8192, 6144]⟩
abbrev S1x6144 : Shape := ⟨2, ![1, 6144]⟩
abbrev S256x6144 : Shape := ⟨2, ![256, 6144]⟩
abbrev S256 : Shape := ⟨1, ![256]⟩
abbrev S256x1 : Shape := ⟨2, ![256, 1]⟩
abbrev S8192x16384 : Shape := ⟨2, ![8192, 16384]⟩
abbrev S1024x6144 : Shape := ⟨2, ![1024, 6144]⟩
abbrev S768x1024 : Shape := ⟨2, ![768, 1024]⟩
abbrev S96x1024 : Shape := ⟨2, ![96, 1024]⟩
abbrev S96x128 : Shape := ⟨2, ![96, 128]⟩
abbrev S1024x1024 : Shape := ⟨2, ![1024, 1024]⟩
abbrev S6144x1024 : Shape := ⟨2, ![6144, 1024]⟩
abbrev S96x128x1 : Shape := ⟨3, ![96, 128, 1]⟩
abbrev S8x1024 : Shape := ⟨2, ![8, 1024]⟩
abbrev S8x1x1024 : Shape := ⟨3, ![8, 1, 1024]⟩
abbrev S8x8x1024 : Shape := ⟨3, ![8, 8, 1024]⟩
abbrev S64x1024 : Shape := ⟨2, ![64, 1024]⟩
abbrev S1x1024 : Shape := ⟨2, ![1, 1024]⟩
abbrev S8192x1x16384 : Shape := ⟨3, ![8192, 1, 16384]⟩

abbrev nBuf : Space → Nat
  | .hbm => 10
  | .vmem => 16
  | .smem => 0
  | _ => 0

abbrev bufTy : (tb : Table) → Fin (tcTables nBuf tb) → BufTy
  | .hbm, ⟨0, _⟩ => ⟨S8192x1x6144, .bf16⟩
  | .hbm, ⟨1, _⟩ => ⟨S6144, .f32⟩
  | .hbm, ⟨2, _⟩ => ⟨S768x16384, .i32⟩
  | .hbm, ⟨3, _⟩ => ⟨S96x16384, .bf16⟩
  | .hbm, ⟨4, _⟩ => ⟨S96x2048, .i32⟩
  | .hbm, ⟨5, _⟩ => ⟨S8192x6144, .bf16⟩
  | .hbm, ⟨6, _⟩ => ⟨S1x6144, .f32⟩
  | .hbm, ⟨7, _⟩ => ⟨S8192x6144, .bf16⟩
  | .hbm, ⟨8, _⟩ => ⟨S8192x16384, .bf16⟩
  | .hbm, ⟨9, _⟩ => ⟨S8192x1x16384, .bf16⟩
  | .local _ .vmem, ⟨0, _⟩ => ⟨S256x6144, .bf16⟩
  | .local _ .vmem, ⟨1, _⟩ => ⟨S256x6144, .bf16⟩
  | .local _ .vmem, ⟨2, _⟩ => ⟨S1x6144, .f32⟩
  | .local _ .vmem, ⟨3, _⟩ => ⟨S256x6144, .bf16⟩
  | .local _ .vmem, ⟨4, _⟩ => ⟨S256x6144, .bf16⟩
  | .local _ .vmem, ⟨5, _⟩ => ⟨S1024x6144, .bf16⟩
  | .local _ .vmem, ⟨6, _⟩ => ⟨S1024x6144, .bf16⟩
  | .local _ .vmem, ⟨7, _⟩ => ⟨S768x1024, .i32⟩
  | .local _ .vmem, ⟨8, _⟩ => ⟨S768x1024, .i32⟩
  | .local _ .vmem, ⟨9, _⟩ => ⟨S96x1024, .bf16⟩
  | .local _ .vmem, ⟨10, _⟩ => ⟨S96x1024, .bf16⟩
  | .local _ .vmem, ⟨11, _⟩ => ⟨S96x128, .i32⟩
  | .local _ .vmem, ⟨12, _⟩ => ⟨S96x128, .i32⟩
  | .local _ .vmem, ⟨13, _⟩ => ⟨S1024x1024, .bf16⟩
  | .local _ .vmem, ⟨14, _⟩ => ⟨S1024x1024, .bf16⟩
  | .local _ .vmem, ⟨15, _⟩ => ⟨S6144x1024, .bf16⟩
  | _, _ => ⟨S8192x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S768x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S96x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S96x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8192x1x6144 : Shape := ⟨3, ![8192, 1, 6144]⟩
abbrev S6144 : Shape := ⟨1, ![6144]⟩
abbrev S768x16384 : Shape := ⟨2, ![768, 16384]⟩
abbrev S96x16384 : Shape := ⟨2, ![96, 16384]⟩
abbrev S96x2048 : Shape := ⟨2, ![96, 2048]⟩
abbrev S_ : Shape := ⟨0, ![]⟩
abbrev S8192x1 : Shape := ⟨2, ![8192, 1]⟩
abbrev S8192x1x1 : Shape := ⟨3, ![8192, 1, 1]⟩
abbrev S1x1x6144 : Shape := ⟨3, ![1, 1, 6144]⟩
abbrev S8 : Shape := ⟨1, ![8]⟩
abbrev S96x2048x1 : Shape := ⟨3, ![96, 2048, 1]⟩
abbrev S1x1x8 : Shape := ⟨3, ![1, 1, 8]⟩
abbrev S96x2048x8 : Shape := ⟨3, ![96, 2048, 8]⟩
abbrev S768x1x16384 : Shape := ⟨3, ![768, 1, 16384]⟩
abbrev S1x8x1 : Shape := ⟨3, ![1, 8, 1]⟩
abbrev S768x8x16384 : Shape := ⟨3, ![768, 8, 16384]⟩
abbrev S96x64x16384 : Shape := ⟨3, ![96, 64, 16384]⟩
abbrev S96x1x16384 : Shape := ⟨3, ![96, 1, 16384]⟩
abbrev S6144x16384 : Shape := ⟨2, ![6144, 16384]⟩
abbrev S8192x1x16384 : Shape := ⟨3, ![8192, 1, 16384]⟩

abbrev nBuf : Space → Nat
  | .hbm => 56
  | .vmem => 0
  | .smem => 0
  | _ => 0

abbrev bufTy : (tb : Table) → Fin (tcTables nBuf tb) → BufTy
  | .hbm, ⟨0, _⟩ => ⟨S8192x1x6144, .bf16⟩
  | .hbm, ⟨1, _⟩ => ⟨S6144, .f32⟩
  | .hbm, ⟨2, _⟩ => ⟨S768x16384, .i32⟩
  | .hbm, ⟨3, _⟩ => ⟨S96x16384, .bf16⟩
  | .hbm, ⟨4, _⟩ => ⟨S96x2048, .i32⟩
  | .hbm, ⟨5, _⟩ => ⟨S8192x1x6144, .f32⟩
  | .hbm, ⟨6, _⟩ => ⟨S8192x1x6144, .f32⟩
  | .hbm, ⟨7, _⟩ => ⟨S_, .f32⟩
  | .hbm, ⟨8, _⟩ => ⟨S8192x1, .f32⟩
  | .hbm, ⟨9, _⟩ => ⟨S8192x1x1, .f32⟩
  | .hbm, ⟨10, _⟩ => ⟨S_, .f32⟩
  | .hbm, ⟨11, _⟩ => ⟨S8192x1x1, .f32⟩
  | .hbm, ⟨12, _⟩ => ⟨S8192x1x1, .f32⟩
  | .hbm, ⟨13, _⟩ => ⟨S_, .f32⟩
  | .hbm, ⟨14, _⟩ => ⟨S8192x1x1, .f32⟩
  | .hbm, ⟨15, _⟩ => ⟨S8192x1x1, .f32⟩
  | .hbm, ⟨16, _⟩ => ⟨S8192x1x1, .f32⟩
  | .hbm, ⟨17, _⟩ => ⟨S8192x1x6144, .f32⟩
  | .hbm, ⟨18, _⟩ => ⟨S8192x1x6144, .f32⟩
  | .hbm, ⟨19, _⟩ => ⟨S1x1x6144, .f32⟩
  | .hbm, ⟨20, _⟩ => ⟨S8192x1x6144, .f32⟩
  | .hbm, ⟨21, _⟩ => ⟨S8192x1x6144, .f32⟩
  | .hbm, ⟨22, _⟩ => ⟨S8192x1x6144, .bf16⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S96x2048x1, .i32⟩
  | .hbm, ⟨28, _⟩ => ⟨S1x1x8, .i32⟩
  | .hbm, ⟨29, _⟩ => ⟨S96x2048x8, .i32⟩
  | .hbm, ⟨30, _⟩ => ⟨S96x2048x8, .i32⟩
  | .hbm, ⟨31, _⟩ => ⟨S96x2048x8, .i32⟩
  | .hbm, ⟨32, _⟩ => ⟨S_, .i32⟩
  | .hbm, ⟨33, _⟩ => ⟨S96x2048x8, .i32⟩
  | .hbm, ⟨34, _⟩ => ⟨S96x2048x8, .i32⟩
  | .hbm, ⟨35, _⟩ => ⟨S96x16384, .i32⟩
  | .hbm, ⟨36, _⟩ => ⟨S96x16384, .bf16⟩
  | .hbm, ⟨37, _⟩ => ⟨S768x1x16384, .i32⟩
  | .hbm, ⟨38, _⟩ => ⟨S1x8x1, .i32⟩
  | .hbm, ⟨39, _⟩ => ⟨S768x8x16384, .i32⟩
  | .hbm, ⟨40, _⟩ => ⟨S768x8x16384, .i32⟩
  | .hbm, ⟨41, _⟩ => ⟨S768x8x16384, .i32⟩
  | .hbm, ⟨42, _⟩ => ⟨S_, .i32⟩
  | .hbm, ⟨43, _⟩ => ⟨S768x8x16384, .i32⟩
  | .hbm, ⟨44, _⟩ => ⟨S768x8x16384, .i32⟩
  | .hbm, ⟨45, _⟩ => ⟨S768x8x16384, .bf16⟩
  | .hbm, ⟨46, _⟩ => ⟨S96x64x16384, .bf16⟩
  | .hbm, ⟨47, _⟩ => ⟨S96x1x16384, .bf16⟩
  | .hbm, ⟨48, _⟩ => ⟨S96x64x16384, .bf16⟩
  | .hbm, ⟨49, _⟩ => ⟨S96x64x16384, .bf16⟩
  | .hbm, ⟨50, _⟩ => ⟨S96x1x16384, .bf16⟩
  | .hbm, ⟨51, _⟩ => ⟨S96x64x16384, .bf16⟩
  | .hbm, ⟨52, _⟩ => ⟨S96x64x16384, .bf16⟩
  | .hbm, ⟨53, _⟩ => ⟨S6144x16384, .bf16⟩
  | .hbm, ⟨54, _⟩ => ⟨S8192x1x16384, .f32⟩
  | .hbm, ⟨55, _⟩ => ⟨S8192x1x16384, .bf16⟩
  | _, _ => ⟨S8192x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.KernelBase.lean ====
/-
The branch condition of `Kernel`'s second pallas_call (the matrix product), the memrefs its body runs on, and its first
region (the norm) at any entry contents.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Two

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 128 := Nat.lt_of_lt_of_eq t.isLt N_1
    have e0 : (grid1.coords t 0).val = t.val / 8 % 16 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

/-- One staging buffer of output window 4, through which its contents are stated (`View.read_writes_of_cover`: the
    choice does not matter). -/
abbrev VO1_4 : View sig .tc .vmem S1024x1024 .bf16 := (Memref.whole cc1_stg4_0 : Memref sig .tc .vmem S1024x1024 .bf16).view
/-- Each window's current staging memref at point `t`, spelled as the pipeline passes it (`bodyAt1`), and its wholeness. -/
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S96x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S96x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S6144x1024 .bf16 := Memref.whole cc1_scratch0

/-- The scratch the kernel carries between points, as a view. -/
abbrev VS1_0 : View sig .tc .vmem S6144x1024 .bf16 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

-- the buffer contents when a region is entered: every region's half is stated at this parameter
variable (V : (c : Dev nD) → (b : Ref sig .tc) → Buf (Elt F) ((c : Thread nD τ).loc b))

/-! # REGION 0 of @main: custom_call 0, `cc0_rmsnorm` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x6144 := Rect.unit (s := S256x6144) ![0, 0] S256x6144.size inb_S256x6144_S256x6144_0_0
abbrev r0_1 : Rect S1x6144 := Rect.unit (s := S1x6144) ![0, 0] S1x6144.size inb_S1x6144_S1x6144_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S256x6144 .bf16) (x1 : Vec F S1x6144 .f32) : Vec F S256x6144 .bf16 :=
  View.canon [⟨r0_0, k0_pay1 (View.ld x0 r0_0) (View.ld x1 r0_1)⟩]

/-- Its stores tile the buffer (checked by evaluation), so they cover it. -/
theorem cover0_2 (p0 : Vec F S256x6144 .bf16) (y : S256x6144.Idx) :
    ∃ pc ∈ ([⟨r0_0, p0⟩] : List (View.Piece (Elt F) S256x6144 .bf16)), y ∈ pc.1.set :=
  View.cover_of_tiled [⟨r0_0, p0⟩] S256x6144.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x6144 .bf16) (harg1 : arg1.IsWhole) (arg2 : Memref sig .tc .vmem S1x6144 .f32) (harg2 : arg2.IsWhole) (arg3 : Memref sig .tc .vmem S256x6144 .bf16) (harg3 : arg3.IsWhole)
    (x0 : Vec F S256x6144 .bf16) (x1 : Vec F S1x6144 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rmsnorm i arg1 harg1 arg2 harg2 arg3 harg3) K := by
  simp only [cc0_rmsnorm_eq_skeleton]; unfold cc0_rmsnorm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Two

end
-- ==== Proof.KernelRunA.lean ====
/-
The run of the matrix product's body at a point that dequantizes (second grid coordinate 0).
-/
module

public import proofs.«01_k».proof.Proof.KernelBase

@[expose] public section

set_option maxRecDepth 16384

noncomputable section

namespace Cert.Kernel.Two

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2088000 in
/-- What the body's stores leave in each output's staging memref, as pieces (last first) IN CASE A (`scf.if` 0 taken: points 0, 8, … 120: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) :
    Σ' (L4 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_dequant_matmul i arg2 harg2 arg3 harg3 arg4 harg4 arg5 harg5 arg6 harg6 arg7 harg7) K } := by
  refine ⟨?_, ?_, fun E K => ?run⟩
  case run =>
    simp only [cc1_dequant_matmul_eq_skeleton]; unfold cc1_dequant_matmul_skel
    simp only [k1_part57_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Two

end
-- ==== Proof.KernelRunB.lean ====
/-
The run of the matrix product's body at a point that uses the weights left in the scratch.
-/
module

public import proofs.«01_k».proof.Proof.KernelRunA

@[expose] public section

set_option maxRecDepth 16384

noncomputable section

namespace Cert.Kernel.Two

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 127: 112 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) :
    Σ' (L4 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1_dequant_matmul i arg2 harg2 arg3 harg3 arg4 harg4 arg5 harg5 arg6 harg6 arg7 harg7) K } := by
  refine ⟨?_, [], fun E K => ?run⟩
  case run =>
    simp only [cc1_dequant_matmul_eq_skeleton]; unfold cc1_dequant_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Kernel.Two

end
-- ==== Proof.KernelRegion1.lean ====
/-
The matrix product's region at any entry contents: the scratch carried between points, what every point leaves,
and the body obligation.
-/
module

public import proofs.«01_k».proof.Proof.KernelRunB

@[expose] public section

set_option maxRecDepth 16384

noncomputable section

namespace Cert.Kernel.Two

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered: every region's half is stated at this parameter
variable (V : (c : Dev nD) → (b : Ref sig .tc) → Buf (Elt F) ((c : Thread nD τ).loc b))

/-! # REGION 1 of @main: custom_call 1, `cc1_dequant_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Case A's pieces for output 4 tile its block (1 store of `S1024x1024`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) (y : S1024x1024.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1024x1024.size (by sl_kernel_rfl) y

/-- What case A leaves in output 4's staging buffer: its pieces read back over junk. -/
def out1_A_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) : Vec F S1024x1024 .bf16 :=
  VO1_4.read (Elt F) (VO1_4.writes (Elt F) VO1_4.junk (kernelRun1_A c i arg2 harg2 arg3 harg3 arg4 harg4 arg5 harg5 arg6 harg6 arg7 harg7 hc0 x0 x1 x2 x3).1)

/-- Case A's pieces for scratch `arg7`, which the kernel carries between points, cover it: 96 pieces of `S64x1024` tiling it (Lib/Ring.lean `Piece.tiledL`). -/
theorem scover1_A_0 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) (y : S6144x1024.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S64x1024.size (by sl_kernel_rfl) y

/-- What case A leaves in scratch `arg7`: its pieces read back over junk. -/
def sout1_A_0 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) : Vec F S6144x1024 .bf16 :=
  VS1_0.read (Elt F) (VS1_0.writes (Elt F) VS1_0.junk (kernelRun1_A c i arg2 harg2 arg3 harg3 arg4 harg4 arg5 harg5 arg6 harg6 arg7 harg7 hc0 x0 x1 x2 x3).2.1)

/-- Case B's pieces for output 4 tile its block (1 store of `S1024x1024`, checked by the kernel's evaluation: Lib/Ring.lean `Piece.tiledL`, linear in the pieces, through a loop's `@[irreducible]` trip theorem too), so they cover it. -/
theorem cover1_B_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) (y : S1024x1024.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S1024x1024.size (by sl_kernel_rfl) y

/-- What case B leaves in output 4's staging buffer: its pieces read back over junk. -/
def out1_B_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) : Vec F S1024x1024 .bf16 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-- Case B stores nothing into scratch `arg7`: it holds what the point before left. -/
def sout1_B_0 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) : Vec F S6144x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S6144x1024 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 8 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases hz : t.val = 0
    · rw [PhiS1_castSucc V c t, PhiS1_zero V c _ _ hz, PhiA1_eq]
      rw [outsAt1_A V c t h0]
      unfold out1_A_4 sout1_A_0; (try dsimp only)
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS1_castSucc V c t, PhiS1_pos V c _ _ hz]
      rw [outsAt1_A V c t h0]
      unfold out1_A_4 sout1_A_0; (try dsimp only)
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · by_cases hz : t.val = 0
    · exfalso; have hN : t.val < 128 := lt_of_lt_of_eq t.isLt (show cfg1.N = 128 from N_1); omega
    · rw [PhiS1_castSucc V c t, PhiS1_pos V c _ _ hz]
      rw [outsAt1_B V c t h0]
      unfold out1_B_4 sout1_B_0; (try dsimp only)
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Two

end
-- ==== Proof.KernelRun.lean ====
/-
The run of the whole program: two host reshapes, the norm, the matrix product, a host reshape.
-/
module

public import proofs.«01_k».proof.Proof.KernelRegion1

@[expose] public section

set_option maxRecDepth 16384

noncomputable section

namespace Cert.Kernel.Two

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN of the whole program, at any `F`: from any memory with zero counters every fair execution ends without
    a fault, the result array holds what the last boundary's contents say (`W4`), every argument array is as launched,
    and every semaphore counter is at zero. -/
theorem run_all : θ_run defs (onTc (τ := τ) (main (F := F))) ⟨m, fun _ => 0, ρ⟩ (fun r => (∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩), funext fun g => hz g (.inr (no_unscoped g.2))⟩)

/-- The frame claim: the run without the result array. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

end Cert.Kernel.Two

end
-- ==== Proof.KernelIdealBase.lean ====
/-
The branch condition of `KernelIdeal`'s second pallas_call (the matrix product), the memrefs its body runs on, and its first
region (the norm) at any entry contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 128 := Nat.lt_of_lt_of_eq t.isLt N_1
    have e0 : (grid1.coords t 0).val = t.val / 8 % 16 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

/-- One staging buffer of output window 4, through which its contents are stated (`View.read_writes_of_cover`: the
    choice does not matter). -/
abbrev VO1_4 : View sig .tc .vmem S1024x1024 .bf16 := (Memref.whole cc1_stg4_0 : Memref sig .tc .vmem S1024x1024 .bf16).view
/-- Each window's current staging memref at point `t`, spelled as the pipeline passes it (`bodyAt1`), and its wholeness. -/
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S96x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S96x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S6144x1024 .bf16 := Memref.whole cc1_scratch0

/-- The scratch the kernel carries between points, as a view. -/
abbrev VS1_0 : View sig .tc .vmem S6144x1024 .bf16 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

-- the buffer contents when a region is entered: every region's half is stated at this parameter
variable (V : (c : Dev nD) → (b : Ref sig .tc) → Buf (Elt F) ((c : Thread nD τ).loc b))

/-! # REGION 0 of @main: custom_call 0, `cc0_rmsnorm` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x6144 := Rect.unit (s := S256x6144) ![0, 0] S256x6144.size inb_S256x6144_S256x6144_0_0
abbrev r0_1 : Rect S1x6144 := Rect.unit (s := S1x6144) ![0, 0] S1x6144.size inb_S1x6144_S1x6144_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S256x6144 .bf16) (x1 : Vec F S1x6144 .f32) : Vec F S256x6144 .bf16 :=
  View.canon [⟨r0_0, k0_pay1 (View.ld x0 r0_0) (View.ld x1 r0_1)⟩]

/-- Its stores tile the buffer (checked by evaluation), so they cover it. -/
theorem cover0_2 (p0 : Vec F S256x6144 .bf16) (y : S256x6144.Idx) :
    ∃ pc ∈ ([⟨r0_0, p0⟩] : List (View.Piece (Elt F) S256x6144 .bf16)), y ∈ pc.1.set :=
  View.cover_of_tiled [⟨r0_0, p0⟩] S256x6144.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x6144 .bf16) (harg1 : arg1.IsWhole) (arg2 : Memref sig .tc .vmem S1x6144 .f32) (harg2 : arg2.IsWhole) (arg3 : Memref sig .tc .vmem S256x6144 .bf16) (harg3 : arg3.IsWhole)
    (x0 : Vec F S256x6144 .bf16) (x1 : Vec F S1x6144 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rmsnorm i arg1 harg1 arg2 harg2 arg3 harg3) K := by
  simp only [cc0_rmsnorm_eq_skeleton]; unfold cc0_rmsnorm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Two

end
-- ==== Proof.KernelIdealRunA.lean ====
/-
The run of the matrix product's body at a point that dequantizes (second grid coordinate 0).
-/
module

public import proofs.«01_k».proof.Proof.KernelIdealBase

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2088000 in
/-- What the body's stores leave in each output's staging memref, as pieces (last first) IN CASE A (`scf.if` 0 taken: points 0, 8, … 120: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) :
    Σ' (L4 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_dequant_matmul i arg2 harg2 arg3 harg3 arg4 harg4 arg5 harg5 arg6 harg6 arg7 harg7) K } := by
  refine ⟨?_, ?_, fun E K => ?run⟩
  case run =>
    simp only [cc1_dequant_matmul_eq_skeleton]; unfold cc1_dequant_matmul_skel
    simp only [k1_part57_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Two

end
-- ==== Proof.KernelIdealRunB.lean ====
/-
The run of the matrix product's body at a point that uses the weights left in the scratch.
-/
module

public import proofs.«01_k».proof.Proof.KernelIdealRunA

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 127: 112 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) :
    Σ' (L4 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1_dequant_matmul i arg2 harg2 arg3 harg3 arg4 harg4 arg5 harg5 arg6 harg6 arg7 harg7) K } := by
  refine ⟨?_, [], fun E K => ?run⟩
  case run =>
    simp only [cc1_dequant_matmul_eq_skeleton]; unfold cc1_dequant_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.KernelIdeal.Two

end
-- ==== Proof.KernelIdealRegion1.lean ====
/-
The matrix product's region at any entry contents: the scratch carried between points, what every point leaves,
and the body obligation.
-/
module

public import proofs.«01_k».proof.Proof.KernelIdealRunB

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered: every region's half is stated at this parameter
variable (V : (c : Dev nD) → (b : Ref sig .tc) → Buf (Elt F) ((c : Thread nD τ).loc b))

/-! # REGION 1 of @main: custom_call 1, `cc1_dequant_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Case A's pieces for output 4 tile its block (1 store of `S1024x1024`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) (y : S1024x1024.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S1024x1024.size (by sl_kernel_rfl) y

/-- What case A leaves in output 4's staging buffer: its pieces read back over junk. -/
def out1_A_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) : Vec F S1024x1024 .bf16 :=
  VO1_4.read (Elt F) (VO1_4.writes (Elt F) VO1_4.junk (kernelRun1_A c i arg2 harg2 arg3 harg3 arg4 harg4 arg5 harg5 arg6 harg6 arg7 harg7 hc0 x0 x1 x2 x3).1)

/-- Case A's pieces for scratch `arg7`, which the kernel carries between points, cover it: 96 pieces of `S64x1024` tiling it (Lib/Ring.lean `Piece.tiledL`). -/
theorem scover1_A_0 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) (y : S6144x1024.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S64x1024.size (by sl_kernel_rfl) y

/-- What case A leaves in scratch `arg7`: its pieces read back over junk. -/
def sout1_A_0 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) : Vec F S6144x1024 .bf16 :=
  VS1_0.read (Elt F) (VS1_0.writes (Elt F) VS1_0.junk (kernelRun1_A c i arg2 harg2 arg3 harg3 arg4 harg4 arg5 harg5 arg6 harg6 arg7 harg7 hc0 x0 x1 x2 x3).2.1)

/-- Case B's pieces for output 4 tile its block (1 store of `S1024x1024`, checked by the kernel's evaluation: Lib/Ring.lean `Piece.tiledL`, linear in the pieces, through a loop's `@[irreducible]` trip theorem too), so they cover it. -/
theorem cover1_B_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) (y : S1024x1024.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S1024x1024.size (by sl_kernel_rfl) y

/-- What case B leaves in output 4's staging buffer: its pieces read back over junk. -/
def out1_B_4 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) : Vec F S1024x1024 .bf16 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-- Case B stores nothing into scratch `arg7`: it holds what the point before left. -/
def sout1_B_0 (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec F S1024x6144 .bf16) (x1 : Vec F S768x1024 .i32) (x2 : Vec F S96x1024 .bf16) (x3 : Vec F S96x128 .i32) (xs0 : Vec F S6144x1024 .bf16) : Vec F S6144x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S6144x1024 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 8 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases hz : t.val = 0
    · rw [PhiS1_castSucc V c t, PhiS1_zero V c _ _ hz, PhiA1_eq]
      rw [outsAt1_A V c t h0]
      unfold out1_A_4 sout1_A_0; (try dsimp only)
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS1_castSucc V c t, PhiS1_pos V c _ _ hz]
      rw [outsAt1_A V c t h0]
      unfold out1_A_4 sout1_A_0; (try dsimp only)
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · by_cases hz : t.val = 0
    · exfalso; have hN : t.val < 128 := lt_of_lt_of_eq t.isLt (show cfg1.N = 128 from N_1); omega
    · rw [PhiS1_castSucc V c t, PhiS1_pos V c _ _ hz]
      rw [outsAt1_B V c t h0]
      unfold out1_B_4 sout1_B_0; (try dsimp only)
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Two

end
-- ==== Proof.KernelIdealRun.lean ====
/-
The run of the whole program: two host reshapes, the norm, the matrix product, a host reshape.
-/
module

public import proofs.«01_k».proof.Proof.KernelIdealRegion1

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN of the whole program, at any `F`: from any memory with zero counters every fair execution ends without
    a fault, the result array holds what the last boundary's contents say (`W4`), every argument array is as launched,
    and every semaphore counter is at zero. -/
theorem run_all : θ_run defs (onTc (τ := τ) (main (F := F))) ⟨m, fun _ => 0, ρ⟩ (fun r => (∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩), funext fun g => hz g (.inr (no_unscoped g.2))⟩)

/-- The frame claim: the run without the result array. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_all m ρ)

end Cert.KernelIdeal.Two

end
-- ==== Proof.RefValue.lean ====
/-
The reference over the extended reals, read at an index.
-/
module

public import proofs.«01_k».proof.Proof.Gen.ReferenceIdeal.Run
public import Idealize.ShloMosaic.Lib.Pointwise

@[expose] public section

set_option maxRecDepth 16384

noncomputable section

namespace Cert.ReferenceIdeal.Two

open Cert.ReferenceIdeal Cert.ReferenceIdeal.Gen
open Idealize.ShloMosaic Idealize.ShloMosaic.TcCoe Idealize.ShloMosaic.Tactic

/-- The 4-bit code at place `j` of a word, as the reference takes it. -/
def code (w : BitVec 32) (j : ℕ) : EReal := ((((w >>> (4 * j)) &&& 15#32).toInt : ℝ) : EReal)

/-- The normalized activations, as the reference computes them. -/
def act (x : FVec Ideal S8192x1x6144 .bf16) (g : FVec Ideal S6144 .f32) : FVec Ideal S8192x1x6144 .bf16 :=
  (truncf .bf16 (mulf (mulf (extf .f32 x bitsLt_bf16_f32) (broadcastInDim S8192x1x6144 ![0, 1, 2] bcast_S8192x1x1_S8192x1x6144_0_1_2 (Host.rsqrt (addf (Host.divf (broadcastInDim S8192x1x1 ![0, 1] bcast_S8192x1_S8192x1x1_0_1 (Host.reduceAdd (mulf (extf .f32 x bitsLt_bf16_f32) (extf .f32 x bitsLt_bf16_f32)) (constant S_ .f32 0x00000000#32) reducesTo_S8192x1x6144_S8192x1_d2 h_S_)) (broadcastInDim S8192x1x1 ![] bcast_S_S8192x1x1 (constant S_ .f32 0x45C00000#32))) (broadcastInDim S8192x1x1 ![] bcast_S_S8192x1x1 (constant S_ .f32 0x358637BD#32)))))) (broadcastInDim S8192x1x6144 ![0, 1, 2] bcast_S1x1x6144_S8192x1x6144_0_1_2 (broadcastInDim S1x1x6144 ![2] bcast_S6144_S1x1x6144_2 g))) bitsLt_bf16_f32)

/-- The normalized activations at an index. -/
theorem act_apply (x : FVec Ideal S8192x1x6144 .bf16) (g : FVec Ideal S6144 .f32) (r : Fin 8192) (k : Fin 6144) :
    act x g (ix3 r 0 k)
      = x (ix3 r 0 k) * Ideal.rsqrt (Ideal.div (∑ j : Fin 6144, x (ix3 r 0 j) * x (ix3 r 0 j)) (Ideal.ofBits FTy.f32 0x45C00000#32)
        + Ideal.ofBits FTy.f32 0x358637BD#32) * g (ix1 k) := by
  pointwise [act]

/-- Shifting in copies of the sign instead of zeros does not reach the four bits that are kept. -/
theorem sshiftRight_and (w : BitVec 32) (n : ℕ) (hn : n ≤ 28) : w.sshiftRight n &&& 15#32 = (w >>> n) &&& 15#32 := by
  have h15 : ∀ i : Fin 32, (15#32).getLsbD i.val = decide (i.val < 4) := by decide
  refine BitVec.eq_of_getLsbD_eq fun i hi => ?_
  rw [BitVec.getLsbD_and, BitVec.getLsbD_and, h15 ⟨i, hi⟩]
  by_cases h4 : i < 4
  · rw [BitVec.getLsbD_sshiftRight, BitVec.getLsbD_ushiftRight, if_pos (by omega)]
    simp [show ¬ 32 ≤ i by omega]
  · simp [h4]

/-- The reference's shift and mask give the code. -/
theorem code_eq (w : BitVec 32) : ∀ j : Fin 8,
    FloatOps.sitofp (F := Ideal) FTy.bf16 (IntOp.andi (IntOp.shrsi ArithUnit.host w (IntOp.muli (BitVec.ofNat 32 j.val) 4#32)) 15#32) = code w j.val := by
  intro j
  have e : IntOp.andi (IntOp.shrsi ArithUnit.host w (IntOp.muli (BitVec.ofNat 32 j.val) 4#32)) 15#32 = (w >>> (4 * j.val)) &&& 15#32 := by
    refine Eq.trans ?_ (sshiftRight_and w (4 * j.val) (by omega))
    fin_cases j <;> rfl
  rw [e]
  rfl

/-- The codes of the weights, unpacked along the input channels. -/
def qcodes (q : IVec S768x16384 32) : IVec S768x8x16384 32 :=
  (andi (Host.shrsi (broadcastInDim S768x8x16384 ![0, 1, 2] bcast_S768x1x16384_S768x8x16384_0_1_2 (broadcastInDim S768x1x16384 ![0, 2] bcast_S768x16384_S768x1x16384_0_2 q)) (broadcastInDim S768x8x16384 ![0, 1, 2] bcast_S1x8x1_S768x8x16384_0_1_2 (broadcastInDim S1x8x1 ![1] bcast_S8_S1x8x1_1 (muli (iotaInDim S8 32 0) (broadcastInDim S8 ![] bcast_S_S8 (constantI S_ 32 4#32)))))) (broadcastInDim S768x8x16384 ![] bcast_S_S768x8x16384 (constantI S_ 32 15#32)))

/-- The codes of the zero points, unpacked along the output channels. -/
def zcodes (z : IVec S96x2048 32) : IVec S96x2048x8 32 :=
  (andi (Host.shrsi (broadcastInDim S96x2048x8 ![0, 1, 2] bcast_S96x2048x1_S96x2048x8_0_1_2 (broadcastInDim S96x2048x1 ![0, 1] bcast_S96x2048_S96x2048x1_0_1 z)) (broadcastInDim S96x2048x8 ![0, 1, 2] bcast_S1x1x8_S96x2048x8_0_1_2 (broadcastInDim S1x1x8 ![2] bcast_S8_S1x1x8_2 (muli (iotaInDim S8 32 0) (broadcastInDim S8 ![] bcast_S_S8 (constantI S_ 32 4#32)))))) (broadcastInDim S96x2048x8 ![] bcast_S_S96x2048x8 (constantI S_ 32 15#32)))

/-- A weight's code: nibble `j` of its word. -/
theorem qcodes_apply (q : IVec S768x16384 32) (r : Fin 768) (j : Fin 8) (n : Fin 16384) :
    FloatOps.sitofp (F := Ideal) FTy.bf16 (qcodes q (ix3 r j n)) = code (q (ix2 r n)) j.val := by
  refine Eq.trans (congrArg _ ?_) (code_eq (q (ix2 r n)) j)
  pointwise [qcodes]

/-- A zero point's code: nibble `j` of its word. -/
theorem zcodes_apply (z : IVec S96x2048 32) (r : Fin 96) (n : Fin 2048) (j : Fin 8) :
    FloatOps.sitofp (F := Ideal) FTy.bf16 (zcodes z (ix3 r n j)) = code (z (ix2 r n)) j.val := by
  refine Eq.trans (congrArg _ ?_) (code_eq (z (ix2 r n)) j)
  pointwise [zcodes]

/-- The dequantized weights, as the reference computes them. -/
def weights (q : IVec S768x16384 32) (s : FVec Ideal S96x16384 .bf16) (z : IVec S96x2048 32) : FVec Ideal S6144x16384 .bf16 :=
  (shapeCast _ (mulf (subf (shapeCast _ (sitofp .bf16 (qcodes q)) shapeCasts_S768x8x16384_S96x64x16384) (broadcastInDim S96x64x16384 ![0, 1, 2] bcast_S96x1x16384_S96x64x16384_0_1_2 (broadcastInDim S96x1x16384 ![0, 2] bcast_S96x16384_S96x1x16384_0_2 (sitofp .bf16 (shapeCast _ (zcodes z) shapeCasts_S96x2048x8_S96x16384))))) (broadcastInDim S96x64x16384 ![0, 1, 2] bcast_S96x1x16384_S96x64x16384_0_1_2 (broadcastInDim S96x1x16384 ![0, 2] bcast_S96x16384_S96x1x16384_0_2 s))) shapeCasts_S96x64x16384_S6144x16384)

/-- The dequantized weights at an index. -/
theorem weights_apply (q : IVec S768x16384 32) (s : FVec Ideal S96x16384 .bf16) (z : IVec S96x2048 32) (k : Fin 6144) (n : Fin 16384) :
    weights q s z (ix2 k n)
      = (code (q (ix2 ⟨k.val / 8, by omega⟩ n)) (k.val % 8) - code (z (ix2 ⟨k.val / 64, by omega⟩ ⟨n.val / 8, by omega⟩)) (n.val % 8))
        * s (ix2 ⟨k.val / 64, by omega⟩ n) := by
  pointwise [weights]
  rw [qcodes_apply, zcodes_apply]
  have e1 : (⟨k.val / 64 * 8 + k.val % 64 / 8, by omega⟩ : Fin 768) = ⟨k.val / 8, by omega⟩ := Fin.ext (by
    show k.val / 64 * 8 + k.val % 64 / 8 = k.val / 8
    omega)
  have e2 : k.val % 64 % 8 = k.val % 8 := by omega
  rw [e1]
  dsimp only
  rw [e2]

/-- The product of the activations with the weights. -/
def result (h : FVec Ideal S8192x1x6144 .bf16) (w : FVec Ideal S6144x16384 .bf16) : FVec Ideal S8192x1x16384 .bf16 :=
  truncf .bf16 (Host.dotGeneral dot_S8192x1x6144_S6144x16384_S8192x1x16384_2_0_01_1_n_n none h w) bitsLt_bf16_f32

/-- The product at an index. -/
theorem result_apply (h : FVec Ideal S8192x1x6144 .bf16) (w : FVec Ideal S6144x16384 .bf16) (r : Fin 8192) (n : Fin 16384) :
    result h w (ix3 r 0 n) = ∑ k : Fin 6144, h (ix3 r 0 k) * w (ix2 k n) := by
  pointwise [result]

end Cert.ReferenceIdeal.Two

end
-- ==== Proof.Weights.lean ====
/-
The weight block of the matrix product, as pure functions of the blocks the body loads.
-/
module

public import proofs.«01_k».proof.Proof.Gen.KernelIdeal.Skeleton
public import Idealize.ShloMosaic.Lib.Pointwise

@[expose] public section

set_option maxRecDepth 16384

noncomputable section

namespace Cert.KernelIdeal.Two

open Cert.KernelIdeal Cert.KernelIdeal.Gen
open Idealize.ShloMosaic Idealize.ShloMosaic.TcCoe Idealize.ShloMosaic.Tactic

variable {F : FTy → Type} [FloatOps F]

/-- The lane, floor-divided by 8 and put behind a piece's offset: where each lane of the piece finds its packed word. -/
def zidx (o : BitVec 32) : IVec S96x128 32 :=
  let a : IVec S96x128 32 := addi (broadcast S96x128 o) k1_pay4
  shapeCast S96x128 (shapeCast S96x128x1 (select (cmpi .slt a (broadcast S96x128 0#32)) (addi a (broadcast S96x128 128#32)) a)
    shapeCasts_S96x128_S96x128x1) shapeCasts_S96x128x1_S96x128

/-- One 128-lane piece of the unpacked zero points. -/
def zpiece (o : BitVec 32) (v9 : IVec S96x128 32) : IVec S96x128 32 :=
  andi (shrui (dynamicGather 1 v9 (zidx o)) k1_pay3) (broadcast S96x128 15#32)

/-- The zero points of the groups: the eight pieces side by side. -/
def zun (v9 : IVec S96x128 32) : FVec F S96x1024 .bf16 :=
  sitofp .bf16 (concatenate S96x1024 1 [⟨S96x128, zpiece 0#32 v9⟩, ⟨S96x128, zpiece 16#32 v9⟩, ⟨S96x128, zpiece 32#32 v9⟩,
    ⟨S96x128, zpiece 48#32 v9⟩, ⟨S96x128, zpiece 64#32 v9⟩, ⟨S96x128, zpiece 80#32 v9⟩, ⟨S96x128, zpiece 96#32 v9⟩,
    ⟨S96x128, zpiece 112#32 v9⟩] concatenates_S96x128_S96x128_S96x128_S96x128_S96x128_S96x128_S96x128_S96x128_S96x1024_d1)

/-- The rows that group `g` stores: the codes of its eight word rows, less the group's zero point, times its scale. -/
def grp (z s : FVec F S96x1024 .bf16) (g : ℕ) (hg : S96x1024.Slices ![g, 0] S1x1024) (w : IVec S8x1024 32) : FVec F S64x1024 .bf16 :=
  shapeCast S64x1024 (mulf (subf (sitofp .bf16 (andi (shrui
      (shapeCast S64x1024 (broadcastTo S8x8x1024 (shapeCast S8x1x1024 (shapeCast S8x1x1024 w shapeCasts_S8x1024_S8x1x1024) shapeCasts_S8x1x1024_S8x1x1024) broadcasts_S8x1x1024_S8x8x1024) shapeCasts_S8x8x1024_S64x1024)
      (muli (andi (iota .tc S64x1024 32 [0] iota_S64x1024_d0_w32) (broadcast S64x1024 7#32)) (broadcast S64x1024 4#32))) (broadcast S64x1024 15#32)))
    (broadcastTo S64x1024 (extractStridedSlice S1x1024 ![g, 0] z hg) broadcasts_S1x1024_S64x1024))
    (broadcastTo S64x1024 (extractStridedSlice S1x1024 ![g, 0] s hg) broadcasts_S1x1024_S64x1024)) shapeCasts_S64x1024_S64x1024

/-- Four bits of a word, as a number: nibble `j`, counted from the low end. -/
def nib (w : BitVec 32) (j : ℕ) : EReal := (((((w >>> (4 * j)) &&& 15#32).toInt : ℝ)) : EReal)

/-- A logical shift by a multiple of four, then a mask of four bits, is that nibble. -/
theorem nib_eq (w : BitVec 32) : ∀ k : Fin 8, FloatOps.sitofp (F := Ideal) FTy.bf16 (IntOp.andi (IntOp.shrui ArithUnit.vector w (BitVec.ofNat 32 (4 * k.val))) 15#32) = nib w k.val := by
  intro k
  fin_cases k <;> rfl

/-- The shift of a row of a group: four times its place in the word. -/
theorem shift_rows : ∀ a : Fin 64, IntOp.muli (IntOp.andi (BitVec.ofNat 32 a.val) 7#32) 4#32 = BitVec.ofNat 32 (4 * (a.val % 8)) := by
  decide +kernel

/-- A group's rows at an index. -/
theorem grp_apply (z s : FVec Ideal S96x1024 .bf16) (g : ℕ) (hg : S96x1024.Slices ![g, 0] S1x1024) (hg' : g < 96) (w : IVec S8x1024 32)
    (a : Fin 64) (b : Fin 1024) :
    grp (F := Ideal) z s g hg w (ix2 a b)
      = (nib (w (ix2 ⟨a.val / 8, by omega⟩ b)) (a.val % 8) - z (ix2 ⟨g, hg'⟩ b)) * s (ix2 ⟨g, hg'⟩ b) := by
  pointwise [grp]
  rw [shift_rows a, nib_eq _ ⟨a.val % 8, by omega⟩]

/-- The shift of a lane of a piece of the zero points. -/
theorem pay3_apply (j : S96x128.Idx) : k1_pay3 j = BitVec.ofNat 32 (4 * ((j 1).val % 8)) := by
  idx_vars j
  pointwise [k1_pay3]
  revert j1
  decide +kernel

/-- A lane's word within its piece of the zero points. -/
theorem pay4_apply (j : S96x128.Idx) : k1_pay4 j = BitVec.ofNat 32 ((j 1).val / 8) := by
  idx_vars j
  pointwise [k1_pay4]
  revert j1
  decide +kernel

/-- The word that a lane gathers from. -/
theorem zidx_apply (o : Fin 8) (j : S96x128.Idx) : zidx (BitVec.ofNat 32 (16 * o.val)) j = BitVec.ofNat 32 (16 * o.val + (j 1).val / 8) := by
  idx_vars j
  pointwise [zidx, pay4_apply]
  revert o j1
  decide +kernel

/-- A piece of the zero points at an index, before the nibble is named. -/
theorem zpiece_apply (o : Fin 8) (v9 : IVec S96x128 32) (r : Fin 96) (l : Fin 128) :
    zpiece (BitVec.ofNat 32 (16 * o.val)) v9 (ix2 r l)
      = IntOp.andi (IntOp.shrui ArithUnit.vector (v9 (ix2 r ⟨16 * o.val + l.val / 8, by omega⟩)) (BitVec.ofNat 32 (4 * (l.val % 8)))) 15#32 := by
  pointwise [zpiece, pay3_apply, zidx_apply]
  congr 4
  refine Fin.ext ?_
  show (BitVec.ofNat 32 (16 * o.val + l.val / 8)).toNat % 128 = 16 * o.val + l.val / 8
  have := o.isLt; have := l.isLt
  rw [BitVec.toNat_ofNat]
  omega

/-- A piece of the zero points at an index. -/
theorem zpiece_nib (o : Fin 8) (c : BitVec 32) (hc : c = BitVec.ofNat 32 (16 * o.val)) (v9 : IVec S96x128 32) (r : Fin 96) (l : Fin 128)
    (n : Fin 1024) (hn : n.val = 128 * o.val + l.val) :
    FloatOps.sitofp (F := Ideal) FTy.bf16 (zpiece c v9 (ix2 r l)) = nib (v9 (ix2 r ⟨n.val / 8, by omega⟩)) (n.val % 8) := by
  subst hc
  have e : (⟨n.val / 8, by omega⟩ : Fin 128) = ⟨16 * o.val + l.val / 8, by omega⟩ := Fin.ext (by show n.val / 8 = 16 * o.val + l.val / 8; omega)
  have e2 : n.val % 8 = l.val % 8 := by omega
  rw [zpiece_apply, nib_eq _ ⟨l.val % 8, by omega⟩, e, e2]

/-- The zero points at an index: nibble `n % 8` of word `n / 8`. -/
theorem zun_apply (v9 : IVec S96x128 32) (r : Fin 96) (n : Fin 1024) :
    zun (F := Ideal) v9 (ix2 r n) = nib (v9 (ix2 r ⟨n.val / 8, by omega⟩)) (n.val % 8) := by
  pointwise [zun]
  have hn := n.isLt
  by_cases h0 : n.val < 128
  · rw [dif_pos h0]
    exact zpiece_nib 0 _ (by decide) v9 r ⟨n.val, h0⟩ n (by show n.val = 128 * 0 + (n.val); omega)
  rw [dif_neg h0]
  by_cases h1 : n.val - 128 < 128
  · rw [dif_pos h1]
    exact zpiece_nib 1 _ (by decide) v9 r ⟨n.val - 128, h1⟩ n (by show n.val = 128 * 1 + (n.val - 128); omega)
  rw [dif_neg h1]
  by_cases h2 : n.val - 128 - 128 < 128
  · rw [dif_pos h2]
    exact zpiece_nib 2 _ (by decide) v9 r ⟨n.val - 128 - 128, h2⟩ n (by show n.val = 128 * 2 + (n.val - 128 - 128); omega)
  rw [dif_neg h2]
  by_cases h3 : n.val - 128 - 128 - 128 < 128
  · rw [dif_pos h3]
    exact zpiece_nib 3 _ (by decide) v9 r ⟨n.val - 128 - 128 - 128, h3⟩ n (by show n.val = 128 * 3 + (n.val - 128 - 128 - 128); omega)
  rw [dif_neg h3]
  by_cases h4 : n.val - 128 - 128 - 128 - 128 < 128
  · rw [dif_pos h4]
    exact zpiece_nib 4 _ (by decide) v9 r ⟨n.val - 128 - 128 - 128 - 128, h4⟩ n (by show n.val = 128 * 4 + (n.val - 128 - 128 - 128 - 128); omega)
  rw [dif_neg h4]
  by_cases h5 : n.val - 128 - 128 - 128 - 128 - 128 < 128
  · rw [dif_pos h5]
    exact zpiece_nib 5 _ (by decide) v9 r ⟨n.val - 128 - 128 - 128 - 128 - 128, h5⟩ n (by show n.val = 128 * 5 + (n.val - 128 - 128 - 128 - 128 - 128); omega)
  rw [dif_neg h5]
  by_cases h6 : n.val - 128 - 128 - 128 - 128 - 128 - 128 < 128
  · rw [dif_pos h6]
    exact zpiece_nib 6 _ (by decide) v9 r ⟨n.val - 128 - 128 - 128 - 128 - 128 - 128, h6⟩ n (by show n.val = 128 * 6 + (n.val - 128 - 128 - 128 - 128 - 128 - 128); omega)
  rw [dif_neg h6]
  exact zpiece_nib 7 _ (by decide) v9 r ⟨n.val - 128 - 128 - 128 - 128 - 128 - 128 - 128, by omega⟩ n (by show n.val = 128 * 7 + (n.val - 128 - 128 - 128 - 128 - 128 - 128 - 128); omega)

/-- The weight block of one column block: code less zero point, times scale, at input row `k` and column `n` of the block. -/
def wOf (q : Vec Ideal S768x1024 .i32) (s : Vec Ideal S96x1024 .bf16) (z : Vec Ideal S96x128 .i32) : Vec Ideal S6144x1024 .bf16 :=
  fun i => ((nib (q (ix2 ⟨(i 0).val / 8, by have : (i 0).val < 6144 := (i 0).isLt; omega⟩ (i 1))) ((i 0).val % 8)
      - nib (z (ix2 ⟨(i 0).val / 64, by have : (i 0).val < 6144 := (i 0).isLt; omega⟩ ⟨(i 1).val / 8, by have : (i 1).val < 1024 := (i 1).isLt; omega⟩)) ((i 1).val % 8))
    * s (ix2 ⟨(i 0).val / 64, by have : (i 0).val < 6144 := (i 0).isLt; omega⟩ (i 1)) : EReal)

theorem rows_inb (g : Fin 96) : ∀ a : Fin 2, (![64 * g.val, 0] : Fin 2 → ℕ) a + S64x1024.size a ≤ S6144x1024.size a := by
  intro a; have := g.isLt
  match a with
  | ⟨0, _⟩ => show 64 * g.val + 64 ≤ 6144; omega
  | ⟨1, _⟩ => show 0 + 1024 ≤ 1024; omega

theorem words_inb (g : Fin 96) : ∀ a : Fin 2, (![8 * g.val, 0] : Fin 2 → ℕ) a + S8x1024.size a ≤ S768x1024.size a := by
  intro a; have := g.isLt
  match a with
  | ⟨0, _⟩ => show 8 * g.val + 8 ≤ 768; omega
  | ⟨1, _⟩ => show 0 + 1024 ≤ 1024; omega

theorem slice_ok (g : Fin 96) : S96x1024.Slices ![g.val, 0] S1x1024 := by
  revert g; decide +kernel

/-- The store of group `g`: its rows, and what it stores there, given the loaded blocks. -/
def piece (z s : FVec F S96x1024 .bf16) (q : Fin 96 → IVec S8x1024 32) (g : Fin 96) : View.Piece (Elt F) S6144x1024 .bf16 :=
  ⟨Rect.unit ![64 * g.val, 0] S64x1024.size (rows_inb g), grp z s g.val (slice_ok g) (q g)⟩

end Cert.KernelIdeal.Two

end
-- ==== Proof.WeightBlock.lean ====
/-
What the body leaves in the weight scratch at a point that dequantizes, and in the output block, as functions of the blocks.
-/
module

public import proofs.«01_k».proof.Proof.KernelIdealRegion1
public import proofs.«01_k».proof.Proof.Weights

@[expose] public section

set_option maxRecDepth 16384

noncomputable section

namespace Cert.KernelIdeal.Two

open Cert.KernelIdeal Cert.KernelIdeal.Gen
open Idealize.ShloMosaic Idealize.ShloMosaic.TcCoe Idealize.ShloMosaic.Tactic

variable {F : FTy → Type} [FloatOps F]

/-- The eight word rows of group `g`, as the body loads them. -/
def wordsAt (arg3 : Memref sig .tc .vmem S768x1024 .i32) (harg3 : arg3.IsWhole) (x1 : Vec F S768x1024 .i32) (g : Fin 96) : IVec S8x1024 32 :=
  View.readAt (Elt F) arg3.view (Rect.unit (s := S768x1024) ![8 * g.val, 0] S8x1024.size (words_inb g)).toLoadRect (harg3.unread x1)

/-- The stores into the scratch, last first, are the 96 groups' pieces. -/
theorem pieces_A (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec F S1024x6144 .bf16) (x1 : Vec F S768x1024 .i32) (x2 : Vec F S96x1024 .bf16) (x3 : Vec F S96x128 .i32) :
    (kernelRun1_A c i arg2 harg2 arg3 harg3 arg4 harg4 arg5 harg5 arg6 harg6 arg7 harg7 hc0 x0 x1 x2 x3).2.1
      = ((List.finRange 96).map (piece
          (zun (View.readAt (Elt F) arg5.view (Rect.unit (s := S96x128) ![0, 0] S96x128.size inb_S96x128_S96x128_0_0).toLoadRect (harg5.unread x3)))
          (View.readAt (Elt F) arg4.view (Rect.unit (s := S96x1024) ![0, 0] S96x1024.size inb_S96x1024_S96x1024_0_0).toLoadRect (harg4.unread x2))
          (wordsAt arg3 harg3 x1))).reverse := by
  sl_kernel_rfl

/-- One group's piece, read at an index, is the weight block at the place the store puts it. -/
theorem piece_apply (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole)
    (x1 : Vec Ideal S768x1024 .i32) (x2 : Vec Ideal S96x1024 .bf16) (x3 : Vec Ideal S96x128 .i32) (g : Fin 96) (y : S64x1024.Idx) :
    (piece (F := Ideal) (zun (View.readAt (Elt Ideal) arg5.view (Rect.unit (s := S96x128) ![0, 0] S96x128.size inb_S96x128_S96x128_0_0).toLoadRect (harg5.unread x3)))
          (View.readAt (Elt Ideal) arg4.view (Rect.unit (s := S96x1024) ![0, 0] S96x1024.size inb_S96x1024_S96x1024_0_0).toLoadRect (harg4.unread x2))
          (wordsAt arg3 harg3 x1) g).2 y
      = wOf x1 x2 x3 ((Rect.unit (s := S6144x1024) ![64 * g.val, 0] S64x1024.size (rows_inb g)).emb y) := by
  obtain ⟨a, b, rfl⟩ : ∃ (a : Fin 64) (b : Fin 1024), y = ix2 a b := ⟨y 0, y 1, eq_ix2 y⟩
  have hz : (![0, 0] : Fin 2 → ℕ) = fun _ => 0 := by funext a; fin_cases a <;> rfl
  have hg := g.isLt
  have e5 : View.readAt (Elt Ideal) arg5.view (Rect.unit (s := S96x128) ![0, 0] S96x128.size inb_S96x128_S96x128_0_0).toLoadRect (harg5.unread x3) = x3 := by
    rw [View.readAt_eq_ld, harg5.read_unread]; exact View.ld_unit_zero hz _ _
  have e4 : View.readAt (Elt Ideal) arg4.view (Rect.unit (s := S96x1024) ![0, 0] S96x1024.size inb_S96x1024_S96x1024_0_0).toLoadRect (harg4.unread x2) = x2 := by
    rw [View.readAt_eq_ld, harg4.read_unread]; exact View.ld_unit_zero hz _ _
  have e3 : ∀ (r : Fin 8) (l : Fin 1024), wordsAt arg3 harg3 x1 g (ix2 r l) = x1 (ix2 ⟨8 * g.val + r.val, by omega⟩ l) := by
    intro r l
    unfold wordsAt
    rw [View.readAt_eq_ld, harg3.read_unread]
    pointwise
  rw [e5, e4]
  show grp (F := Ideal) (zun x3) x2 g.val (slice_ok g) (wordsAt arg3 harg3 x1 g) (ix2 a b) = _
  rw [grp_apply _ _ _ _ g.isLt, zun_apply, e3]
  have ha := a.isLt
  have he : (Rect.unit (s := S6144x1024) ![64 * g.val, 0] S64x1024.size (rows_inb g)).emb (ix2 a b) = ix2 (⟨64 * g.val + a.val, by omega⟩ : Fin 6144) b := by
    refine Rect.emb_eq_of_coords _ _ _ fun d => ?_
    match d with
    | ⟨0, _⟩ => show 64 * g.val + a.val = 64 * g.val + 1 * a.val; omega
    | ⟨1, _⟩ => show b.val = 0 + 1 * b.val; omega
  rw [he]
  show _ = (nib (x1 (ix2 ⟨(64 * g.val + a.val) / 8, _⟩ b)) ((64 * g.val + a.val) % 8)
    - nib (x3 (ix2 ⟨(64 * g.val + a.val) / 64, _⟩ ⟨b.val / 8, _⟩)) (b.val % 8)) * x2 (ix2 ⟨(64 * g.val + a.val) / 64, _⟩ b)
  have q1 : (⟨(64 * g.val + a.val) / 8, by omega⟩ : Fin 768) = ⟨8 * g.val + a.val / 8, by omega⟩ := Fin.ext (by show (64 * g.val + a.val) / 8 = 8 * g.val + a.val / 8; omega)
  have q2 : (64 * g.val + a.val) % 8 = a.val % 8 := by omega
  have q3 : (⟨(64 * g.val + a.val) / 64, by omega⟩ : Fin 96) = ⟨g.val, g.isLt⟩ := Fin.ext (by show (64 * g.val + a.val) / 64 = g.val; omega)
  rw [q1, q2, q3]

/-- What a point that dequantizes leaves in the scratch is the weight block. -/
theorem sout1_A_eq (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec Ideal S1024x6144 .bf16) (x1 : Vec Ideal S768x1024 .i32) (x2 : Vec Ideal S96x1024 .bf16) (x3 : Vec Ideal S96x128 .i32) :
    sout1_A_0 (F := Ideal) c i arg2 harg2 arg3 harg3 arg4 harg4 arg5 harg5 arg6 harg6 arg7 harg7 hc0 x0 x1 x2 x3 = wOf x1 x2 x3 := by
  funext y
  refine View.read_writes_apply_of_pieces VS1_0 _ (wOf x1 x2 x3) _ ?_ y (scover1_A_0 c i arg2 harg2 arg3 harg3 arg4 harg4 arg5 harg5 arg6 harg6 arg7 harg7 hc0 x0 x1 x2 x3 y)
  rw [pieces_A]
  intro p hp x
  obtain ⟨g, -, rfl⟩ := List.mem_map.mp (List.mem_reverse.mp hp)
  exact piece_apply arg3 harg3 arg4 harg4 arg5 harg5 x1 x2 x3 g x

/-- What a point that dequantizes leaves in the output block: the product of its row block with the weight block. -/
theorem out1_A_eq (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : cond1_0 i)
    (x0 : Vec Ideal S1024x6144 .bf16) (x1 : Vec Ideal S768x1024 .i32) (x2 : Vec Ideal S96x1024 .bf16) (x3 : Vec Ideal S96x128 .i32) :
    out1_A_4 (F := Ideal) c i arg2 harg2 arg3 harg3 arg4 harg4 arg5 harg5 arg6 harg6 arg7 harg7 hc0 x0 x1 x2 x3 = k1_pay2 x0 (wOf x1 x2 x3) := by
  have hz : (![0, 0] : Fin 2 → ℕ) = fun _ => 0 := by funext a; fin_cases a <;> rfl
  have e2 : View.readAt (Elt Ideal) arg2.view (Rect.unit (s := S1024x6144) ![0, 0] S1024x6144.size inb_S1024x6144_S1024x6144_0_0).toLoadRect (harg2.unread x0) = x0 := by
    rw [View.readAt_eq_ld, harg2.read_unread]; exact View.ld_unit_zero hz _ _
  have e7 : arg7.view.readCov (kernelRun1_A c i arg2 harg2 arg3 harg3 arg4 harg4 arg5 harg5 arg6 harg6 arg7 harg7 hc0 x0 x1 x2 x3).2.1 (Rect.unit (s := S6144x1024) ![0, 0] S6144x1024.size inb_S6144x1024_S6144x1024_0_0).toLoadRect = wOf x1 x2 x3 := by
    rw [View.readCov_eq_canon_ld _ _ _ (fun y => scover1_A_0 c i arg2 harg2 arg3 harg3 arg4 harg4 arg5 harg5 arg6 harg6 arg7 harg7 hc0 x0 x1 x2 x3 y), View.ld_unit_zero hz]
    rw [← View.read_writes_junk_eq_canon VS1_0]
    exact sout1_A_eq c i arg2 harg2 arg3 harg3 arg4 harg4 arg5 harg5 arg6 harg6 arg7 harg7 hc0 x0 x1 x2 x3
  show VO1_4.read (Elt Ideal) (VO1_4.writes (Elt Ideal) VO1_4.junk [⟨Rect.unit (s := S1024x1024) ![0, 0] S1024x1024.size inb_S1024x1024_S1024x1024_0_0,
    k1_pay2 (View.readAt (Elt Ideal) arg2.view (Rect.unit (s := S1024x6144) ![0, 0] S1024x6144.size inb_S1024x6144_S1024x6144_0_0).toLoadRect (harg2.unread x0))
      (arg7.view.readCov (kernelRun1_A c i arg2 harg2 arg3 harg3 arg4 harg4 arg5 harg5 arg6 harg6 arg7 harg7 hc0 x0 x1 x2 x3).2.1 (Rect.unit (s := S6144x1024) ![0, 0] S6144x1024.size inb_S6144x1024_S6144x1024_0_0).toLoadRect)⟩]) = _
  rw [View.read_writes_junk_eq_canon, View.canon_unit_zero hz, e2, e7]

/-- What another point leaves there: the product of its row block with what the scratch holds. -/
theorem out1_B_eq (c : Dev nD) (i : grid1.Coords) (arg2 : Memref sig .tc .vmem S1024x6144 .bf16) (harg2 : arg2.IsWhole) (arg3 : Memref sig .tc .vmem S768x1024 .i32) (harg3 : arg3.IsWhole) (arg4 : Memref sig .tc .vmem S96x1024 .bf16) (harg4 : arg4.IsWhole) (arg5 : Memref sig .tc .vmem S96x128 .i32) (harg5 : arg5.IsWhole) (arg6 : Memref sig .tc .vmem S1024x1024 .bf16) (harg6 : arg6.IsWhole) (arg7 : Memref sig .tc .vmem S6144x1024 .bf16) (harg7 : arg7.IsWhole) (hc0 : ¬cond1_0 i)
    (x0 : Vec Ideal S1024x6144 .bf16) (x1 : Vec Ideal S768x1024 .i32) (x2 : Vec Ideal S96x1024 .bf16) (x3 : Vec Ideal S96x128 .i32) (xs0 : Vec Ideal S6144x1024 .bf16) :
    out1_B_4 (F := Ideal) c i arg2 harg2 arg3 harg3 arg4 harg4 arg5 harg5 arg6 harg6 arg7 harg7 hc0 x0 x1 x2 x3 xs0 = k1_pay2 x0 xs0 := by
  have hz : (![0, 0] : Fin 2 → ℕ) = fun _ => 0 := by funext a; fin_cases a <;> rfl
  have e2 : View.readAt (Elt Ideal) arg2.view (Rect.unit (s := S1024x6144) ![0, 0] S1024x6144.size inb_S1024x6144_S1024x6144_0_0).toLoadRect (harg2.unread x0) = x0 := by
    rw [View.readAt_eq_ld, harg2.read_unread]; exact View.ld_unit_zero hz _ _
  have e7 : View.readAt (Elt Ideal) arg7.view (Rect.unit (s := S6144x1024) ![0, 0] S6144x1024.size inb_S6144x1024_S6144x1024_0_0).toLoadRect (harg7.unread xs0) = xs0 := by
    rw [View.readAt_eq_ld, harg7.read_unread]; exact View.ld_unit_zero hz _ _
  show VO1_4.read (Elt Ideal) (VO1_4.writes (Elt Ideal) VO1_4.junk [⟨Rect.unit (s := S1024x1024) ![0, 0] S1024x1024.size inb_S1024x1024_S1024x1024_0_0,
    k1_pay2 (View.readAt (Elt Ideal) arg2.view (Rect.unit (s := S1024x6144) ![0, 0] S1024x6144.size inb_S1024x6144_S1024x6144_0_0).toLoadRect (harg2.unread x0))
      (View.readAt (Elt Ideal) arg7.view (Rect.unit (s := S6144x1024) ![0, 0] S6144x1024.size inb_S6144x1024_S6144x1024_0_0).toLoadRect (harg7.unread xs0))⟩]) = _
  rw [View.read_writes_junk_eq_canon, View.canon_unit_zero hz, e2, e7]

end Cert.KernelIdeal.Two

end
-- ==== Proof.ProductValue.lean ====
/-
The matrix product's region over the extended reals: the weights that the scratch carries, and the array that the region leaves.
-/
module

public import proofs.«01_k».proof.Proof.WeightBlock
public import Idealize.ShloMosaic.Lib.Pipeline.ValueKit.Geometry

@[expose] public section

set_option maxRecDepth 16384

noncomputable section

namespace Cert.KernelIdeal.Two

open Cert.KernelIdeal Cert.KernelIdeal.Gen
open Idealize.ShloMosaic Idealize.ShloMosaic.TcCoe Idealize.ShloMosaic.Tactic

/-- The dequantized weight of input channel `k` and output channel `n`. -/
def wt (q : Vec Ideal S768x16384 .i32) (s : Vec Ideal S96x16384 .bf16) (z : Vec Ideal S96x2048 .i32) (k : Fin 6144) (n : Fin 16384) : EReal :=
  (nib (q (ix2 ⟨k.val / 8, by omega⟩ n)) (k.val % 8) - nib (z (ix2 ⟨k.val / 64, by omega⟩ ⟨n.val / 8, by omega⟩)) (n.val % 8))
    * s (ix2 ⟨k.val / 64, by omega⟩ n)

/-- The product of the rows `h` with the weights. -/
def prod (h : Vec Ideal S8192x6144 .bf16) (q : Vec Ideal S768x16384 .i32) (s : Vec Ideal S96x16384 .bf16) (z : Vec Ideal S96x2048 .i32) :
    Vec Ideal S8192x16384 .bf16 :=
  fun i => ∑ k : Fin 6144, h (ix2 (i 0) k) * wt q s z k (i 1)

variable (V : (c : Dev nD) → (b : Ref sig .tc) → Buf (Elt Ideal) ((c : Thread nD τ).loc b))

/-! ## The windows' index maps -/

/-- The region has 128 points. -/
theorem lt1 (t : Fin cfg1.N) : t.val < 128 := lt_of_lt_of_eq t.isLt (show cfg1.N = 128 from by decide +kernel)

/-- Each window's block index at a point: the row block is `t % 8`, the column block `t / 8`. -/
theorem idx1_0 : ∀ t : Fin cfg1.N, win1_0.index t = ![t.val % 8, 0] := (by decide +kernel : ∀ t : Fin grid1.N, win1_0.index t = ![t.val % 8, 0])
theorem idx1_1 : ∀ t : Fin cfg1.N, win1_1.index t = ![0, t.val / 8] := (by decide +kernel : ∀ t : Fin grid1.N, win1_1.index t = ![0, t.val / 8])
theorem idx1_2 : ∀ t : Fin cfg1.N, win1_2.index t = ![0, t.val / 8] := (by decide +kernel : ∀ t : Fin grid1.N, win1_2.index t = ![0, t.val / 8])
theorem idx1_3 : ∀ t : Fin cfg1.N, win1_3.index t = ![0, t.val / 8] := (by decide +kernel : ∀ t : Fin grid1.N, win1_3.index t = ![0, t.val / 8])
theorem idx1_4 : ∀ t : Fin cfg1.N, win1_4.index t = ![t.val % 8, t.val / 8] := (by decide +kernel : ∀ t : Fin grid1.N, win1_4.index t = ![t.val % 8, t.val / 8])

/-! ## The blocks, read at coordinates -/

/-- A row block of the left operand, read in its array. -/
theorem iblk1_0_apply (c : Dev nD) (t : Fin cfg1.N) (a : Fin 1024) (b : Fin 6144) :
    (iblk1 V c 0 t : Vec Ideal S1024x6144 .bf16) (ix2 a b)
      = (V c main_v2 : Vec Ideal S8192x6144 .bf16) (ix2 ⟨1024 * (t.val % 8) + a.val, by have := lt1 t; omega⟩ b) := by
  blk_simp [iblk1]
  blk_ext [idx1_0]

/-- A column block of the packed weights, read in its array. -/
theorem iblk1_1_apply (c : Dev nD) (t : Fin cfg1.N) (a : Fin 768) (b : Fin 1024) :
    (iblk1 V c 1 t : Vec Ideal S768x1024 .i32) (ix2 a b)
      = (V c main_arg2 : Vec Ideal S768x16384 .i32) (ix2 a ⟨1024 * (t.val / 8) + b.val, by have := lt1 t; omega⟩) := by
  blk_simp [iblk1]
  blk_ext [idx1_1]

/-- A column block of the scales, read in its array. -/
theorem iblk1_2_apply (c : Dev nD) (t : Fin cfg1.N) (a : Fin 96) (b : Fin 1024) :
    (iblk1 V c 2 t : Vec Ideal S96x1024 .bf16) (ix2 a b)
      = (V c main_arg3 : Vec Ideal S96x16384 .bf16) (ix2 a ⟨1024 * (t.val / 8) + b.val, by have := lt1 t; omega⟩) := by
  blk_simp [iblk1]
  blk_ext [idx1_2]

/-- A column block of the packed zero points, read in its array. -/
theorem iblk1_3_apply (c : Dev nD) (t : Fin cfg1.N) (a : Fin 96) (b : Fin 128) :
    (iblk1 V c 3 t : Vec Ideal S96x128 .i32) (ix2 a b)
      = (V c main_arg4 : Vec Ideal S96x2048 .i32) (ix2 a ⟨128 * (t.val / 8) + b.val, by have := lt1 t; omega⟩) := by
  blk_simp [iblk1]
  blk_ext [idx1_3]

/-- The weight block of a point's blocks is the weights at the point's output channels. -/
theorem wOf_blocks (c : Dev nD) (t : Fin cfg1.N) (k : Fin 6144) (b : Fin 1024) :
    wOf (iblk1 V c 1 t) (iblk1 V c 2 t) (iblk1 V c 3 t) (ix2 k b)
      = wt (V c main_arg2) (V c main_arg3) (V c main_arg4) k ⟨1024 * (t.val / 8) + b.val, by have := lt1 t; omega⟩ := by
  show (nib ((iblk1 V c 1 t : Vec Ideal S768x1024 .i32) (ix2 ⟨k.val / 8, by omega⟩ b)) (k.val % 8)
      - nib ((iblk1 V c 3 t : Vec Ideal S96x128 .i32) (ix2 ⟨k.val / 64, by omega⟩ ⟨b.val / 8, by omega⟩)) (b.val % 8))
      * (iblk1 V c 2 t : Vec Ideal S96x1024 .bf16) (ix2 ⟨k.val / 64, by omega⟩ b) = _
  rw [iblk1_1_apply, iblk1_2_apply, iblk1_3_apply]
  unfold wt
  have ht := lt1 t
  have hb := b.isLt
  have e1 : (⟨128 * (t.val / 8) + b.val / 8, by omega⟩ : Fin 2048) = ⟨(1024 * (t.val / 8) + b.val) / 8, by omega⟩ := Fin.ext (by
    show 128 * (t.val / 8) + b.val / 8 = (1024 * (t.val / 8) + b.val) / 8
    omega)
  have e2 : b.val % 8 = (1024 * (t.val / 8) + b.val) % 8 := by omega
  rw [← e1, ← e2]

/-- After every point the scratch holds the weights at the point's output channels. -/
theorem scratch_apply (c : Dev nD) : ∀ (n : ℕ) (hn : n < cfg1.N) (k : Fin 6144) (b : Fin 1024),
    (outsAt1 V c n hn).2 (ix2 k b)
      = wt (V c main_arg2) (V c main_arg3) (V c main_arg4) k ⟨1024 * (n / 8) + b.val, by have := lt1 ⟨n, hn⟩; dsimp only at this; omega⟩ := by
  intro n
  induction n with
  | zero =>
    intro hn k b
    rw [outsAt1_A V c ⟨0, hn⟩ (Nat.zero_mod _)]
    dsimp only
    rw [sout1_A_eq]
    exact wOf_blocks V c ⟨0, hn⟩ k b
  | succ n ih =>
    intro hn k b
    by_cases h0 : (n + 1) % 8 = 0
    · rw [outsAt1_A V c ⟨n + 1, hn⟩ h0]
      dsimp only
      rw [sout1_A_eq]
      exact wOf_blocks V c ⟨n + 1, hn⟩ k b
    · rw [outsAt1_B V c ⟨n + 1, hn⟩ h0]
      refine (ih (Nat.lt_of_succ_lt hn) k b).trans ?_
      have e : n / 8 = (n + 1) / 8 := by omega
      congr 1
      exact Fin.ext (by
        show 1024 * (n / 8) + b.val = 1024 * ((n + 1) / 8) + b.val
        omega)

/-! ## The output array -/

/-- The product of a row block with a weight block, at an index. -/
theorem pay2_apply (x : Vec Ideal S1024x6144 .bf16) (w : Vec Ideal S6144x1024 .bf16) (a b : Fin 1024) :
    k1_pay2 (F := Ideal) x w (ix2 a b) = ∑ k : Fin 6144, x (ix2 a k) * w (ix2 k b) := by
  pointwise [k1_pay2]

/-- What a point leaves in the output block. -/
theorem out_apply (c : Dev nD) (t : Fin cfg1.N) (a b : Fin 1024) :
    (outsAt1 V c t.val t.isLt).1 (ix2 a b)
      = prod (V c main_v2) (V c main_arg2) (V c main_arg3) (V c main_arg4)
          (ix2 ⟨1024 * (t.val % 8) + a.val, by have := lt1 t; omega⟩ ⟨1024 * (t.val / 8) + b.val, by have := lt1 t; omega⟩) := by
  by_cases h0 : t.val % 8 = 0
  · rw [outsAt1_A V c t h0]
    dsimp only
    rw [out1_A_eq, pay2_apply]
    refine Finset.sum_congr rfl fun k _ => ?_
    rw [iblk1_0_apply, wOf_blocks]
    rfl
  · have e := scratch_apply V c t.val t.isLt
    rw [outsAt1_B V c t h0] at e ⊢
    dsimp only at e ⊢
    rw [out1_B_eq, pay2_apply]
    refine Finset.sum_congr rfl fun k _ => ?_
    rw [iblk1_0_apply]
    congr 1
    exact e k b

/-- The array that the region leaves: row `r` of its left operand against the weights of output channel `n`. -/
theorem final1 (c : Dev nD) : (dat1 V c).arrAt 4 cfg1.N
    = prod (V c main_v2) (V c main_arg2) (V c main_arg3) (V c main_arg4) := by
  refine (dat1 V c).arrAt_eq_of_covers 4 _ (by decide +kernel) fun t hf y => ?_
  obtain ⟨a, b, rfl⟩ : ∃ (a b : Fin 1024), y = ix2 a b := ⟨y 0, y 1, eq_ix2 y⟩
  have ht := lt1 t
  have e : ((cfg1.win 4).blk t).view.emb (ix2 a b) = (ix2 ⟨1024 * (t.val % 8) + a.val, by omega⟩ ⟨1024 * (t.val / 8) + b.val, by omega⟩ : S8192x16384.Idx) := by
    blk_ext [idx1_4]
  rw [e, after1_4]
  exact out_apply V c t a b

end Cert.KernelIdeal.Two

end
-- ==== Proof.NormValue.lean ====
/-
The normalization's region over the extended reals: the array that it leaves.
-/
module

public import proofs.«01_k».proof.Proof.KernelIdealBase
public import Idealize.ShloMosaic.Lib.Pipeline.ValueKit.Geometry
public import Idealize.ShloMosaic.Lib.Pointwise

@[expose] public section

set_option maxRecDepth 16384

noncomputable section

namespace Cert.KernelIdeal.Two

open Cert.KernelIdeal Cert.KernelIdeal.Gen
open Idealize.ShloMosaic Idealize.ShloMosaic.TcCoe Idealize.ShloMosaic.Tactic

/-- The normalization of the rows of `x` with the gains `g`. -/
def norm (x : Vec Ideal S8192x6144 .bf16) (g : Vec Ideal S1x6144 .f32) : Vec Ideal S8192x6144 .bf16 :=
  fun i => x i * Ideal.rsqrt (Ideal.div (∑ k : Fin 6144, x (ix2 (i 0) k) * x (ix2 (i 0) k)) (Ideal.ofBits FTy.f32 0x45C00000#32)
    + Ideal.ofBits FTy.f32 0x358637BD#32) * g (ix2 0 (i 1))

/-- What the body computes from a row block, at an index. -/
theorem npay_apply (x : Vec Ideal S256x6144 .bf16) (g : Vec Ideal S1x6144 .f32) (a : Fin 256) (b : Fin 6144) :
    k0_pay1 (F := Ideal) x g (ix2 a b)
      = x (ix2 a b) * Ideal.rsqrt (Ideal.div (∑ k : Fin 6144, x (ix2 a k) * x (ix2 a k)) (Ideal.ofBits FTy.f32 0x45C00000#32)
        + Ideal.ofBits FTy.f32 0x358637BD#32) * g (ix2 0 b) := by
  pointwise [k0_pay1]

/-- What the body leaves in the output block is what it computes from the input blocks. -/
theorem out0_eq (x : Vec Ideal S256x6144 .bf16) (g : Vec Ideal S1x6144 .f32) : out0_2 (F := Ideal) x g = k0_pay1 x g := by
  have hz : (![0, 0] : Fin 2 → ℕ) = fun _ => 0 := by funext a; fin_cases a <;> rfl
  unfold out0_2
  rw [View.canon_unit_zero hz, View.ld_unit_zero hz, View.ld_unit_zero hz]

variable (V : (c : Dev nD) → (b : Ref sig .tc) → Buf (Elt Ideal) ((c : Thread nD τ).loc b))

/-- The region has 32 points. -/
theorem lt0 (t : Fin cfg0.N) : t.val < 32 := lt_of_lt_of_eq t.isLt (show cfg0.N = 32 from by decide +kernel)

/-- Each window's block index at a point: the row block is `t`. -/
theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0] := (by decide +kernel : ∀ t : Fin grid0.N, win0_1.index t = ![0, 0])
theorem idx0_2 : ∀ t : Fin cfg0.N, win0_2.index t = ![t.val, 0] := (by decide +kernel : ∀ t : Fin grid0.N, win0_2.index t = ![t.val, 0])

/-- A row block of the activations, read in its array. -/
theorem iblk0_0_apply (c : Dev nD) (t : Fin cfg0.N) (a : Fin 256) (b : Fin 6144) :
    (iblk0 V c 0 t : Vec Ideal S256x6144 .bf16) (ix2 a b)
      = (V c main_v0 : Vec Ideal S8192x6144 .bf16) (ix2 ⟨256 * t.val + a.val, by have := lt0 t; omega⟩ b) := by
  blk_simp [iblk0]
  blk_ext [idx0_0]

/-- The gains, whole at every point. -/
theorem iblk0_1_apply (c : Dev nD) (t : Fin cfg0.N) (a : Fin 1) (b : Fin 6144) :
    (iblk0 V c 1 t : Vec Ideal S1x6144 .f32) (ix2 a b) = (V c main_v1 : Vec Ideal S1x6144 .f32) (ix2 a b) := by
  blk_simp [iblk0]
  blk_ext [idx0_1]

/-- What a point leaves in the output block. -/
theorem out0_apply (c : Dev nD) (t : Fin cfg0.N) (a : Fin 256) (b : Fin 6144) :
    out0_2 (F := Ideal) (iblk0 V c 0 t) (iblk0 V c 1 t) (ix2 a b)
      = norm (V c main_v0) (V c main_v1) (ix2 ⟨256 * t.val + a.val, by have := lt0 t; omega⟩ b) := by
  rw [out0_eq, npay_apply]
  simp only [iblk0_0_apply, iblk0_1_apply]
  dsimp only [norm]
  rfl

/-- The array that the region leaves: the normalized rows. -/
theorem final0 (c : Dev nD) : (dat0 V c).arrAt 2 cfg0.N = norm (V c main_v0) (V c main_v1) := by
  refine (dat0 V c).arrAt_eq_of_covers 2 _ (by decide +kernel) fun t hf y => ?_
  obtain ⟨a, b, rfl⟩ : ∃ (a : Fin 256) (b : Fin 6144), y = ix2 a b := ⟨y 0, y 1, eq_ix2 y⟩
  have ht := lt0 t
  have e : ((cfg0.win 2).blk t).view.emb (ix2 a b) = (ix2 ⟨256 * t.val + a.val, by omega⟩ b : S8192x6144.Idx) := by
    blk_ext [idx0_2]
  have h := out0_apply V c t a b
  rw [e, after0_2]
  generalize out0_2 (F := Ideal) (iblk0 V c 0 t) (iblk0 V c 1 t) = o at h ⊢
  exact h

end Cert.KernelIdeal.Two

end
-- ==== Proof.Result.lean ====
/-
The kernel's result array over the extended reals, read at an index, beside the reference's.
-/
module

public import proofs.«01_k».proof.Proof.KernelIdealRun
public import proofs.«01_k».proof.Proof.ProductValue
public import proofs.«01_k».proof.Proof.NormValue
public import proofs.«01_k».proof.Proof.RefValue

@[expose] public section

set_option maxRecDepth 16384

noncomputable section

namespace Cert.KernelIdeal.Two

open Cert.KernelIdeal Cert.KernelIdeal.Gen
open Idealize.ShloMosaic Idealize.ShloMosaic.TcCoe Idealize.ShloMosaic.Tactic Idealize.ShloMosaic.StableHlo Idealize.SL.Sem

/-- The kernel's result as a function of its arguments: the rows without their unit axis, normalized, times the weights. -/
def outOf (x : Vec Ideal S8192x1x6144 .bf16) (g : Vec Ideal S6144 .f32) (q : Vec Ideal S768x16384 .i32) (s : Vec Ideal S96x16384 .bf16)
    (z : Vec Ideal S96x2048 .i32) : Vec Ideal S8192x1x16384 .bf16 :=
  shapeCast S8192x1x16384 (prod (norm (shapeCast S8192x6144 x shapeCasts_S8192x1x6144_S8192x6144) (shapeCast S1x6144 g shapeCasts_S6144_S1x6144)) q s z)
    shapeCasts_S8192x16384_S8192x1x16384

variable (m : (ℓ : Loc nD τ sig) → Buf (Elt Ideal) ℓ) (ρ : Dev nD → PrngReg)

/-- The activations as the first call finds them. -/
theorem W1_v0 (c : Dev nD) : W1 m ρ c (Proc.devRef .tc main_v0)
    = shapeCast S8192x6144 (m ((c : Thread nD τ).loc main_arg0)) shapeCasts_S8192x1x6144_S8192x6144 := by
  after_results_simp <;> rfl

/-- The gains as the first call finds them. -/
theorem W1_v1 (c : Dev nD) : W1 m ρ c (Proc.devRef .tc main_v1)
    = shapeCast S1x6144 (m ((c : Thread nD τ).loc main_arg1)) shapeCasts_S6144_S1x6144 := by
  after_results_simp <;> rfl

/-- What the first call leaves. -/
theorem W2_v2 (c : Dev nD) : W2 m ρ c (Proc.devRef .tc main_v2)
    = norm (shapeCast S8192x6144 (m ((c : Thread nD τ).loc main_arg0)) shapeCasts_S8192x1x6144_S8192x6144)
        (shapeCast S1x6144 (m ((c : Thread nD τ).loc main_arg1)) shapeCasts_S6144_S1x6144) := by
  refine (W2_arr m ρ c 2).trans ((final0 (V1 m ρ) c).trans ?_)
  exact congrArg₂ norm (W1_v0 m ρ c) (W1_v1 m ρ c)

/-- What the second call leaves. -/
theorem W3_v3 (c : Dev nD) : W3 m ρ c (Proc.devRef .tc main_v3)
    = prod (norm (shapeCast S8192x6144 (m ((c : Thread nD τ).loc main_arg0)) shapeCasts_S8192x1x6144_S8192x6144)
        (shapeCast S1x6144 (m ((c : Thread nD τ).loc main_arg1)) shapeCasts_S6144_S1x6144))
        (m ((c : Thread nD τ).loc main_arg2)) (m ((c : Thread nD τ).loc main_arg3)) (m ((c : Thread nD τ).loc main_arg4)) := by
  refine (W3_arr m ρ c 4).trans ((final1 (V2 m ρ) c).trans ?_)
  have e1 : V2 m ρ c main_v2 = _ := W2_v2 m ρ c
  have e2 : V2 m ρ c main_arg2 = _ := W2_args m ρ c main_arg2 (by decide)
  have e3 : V2 m ρ c main_arg3 = _ := W2_args m ρ c main_arg3 (by decide)
  have e4 : V2 m ρ c main_arg4 = _ := W2_args m ρ c main_arg4 (by decide)
  rw [e1, e2, e3, e4]

/-- The last reshape. -/
theorem W4_step (W : Valuation τ sig (Elt Ideal)) : StableHlo.after hostOps2 W (Proc.devRef .tc main_v4)
    = shapeCast S8192x1x16384 (W (Proc.devRef .tc main_v3)) shapeCasts_S8192x16384_S8192x1x16384 := by
  after_results_simp <;> rfl

/-- The kernel's result array after the run. -/
theorem W4_v4 (c : Dev nD) : W4 m ρ c (Proc.devRef .tc main_v4)
    = outOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_step (W3 m ρ c)).trans ?_
  exact congrArg (fun v => shapeCast S8192x1x16384 v shapeCasts_S8192x16384_S8192x1x16384) (W3_v3 m ρ c)

/-- The normalized rows are the reference's activations. -/
theorem norm_cast_apply (x : Vec Ideal S8192x1x6144 .bf16) (g : Vec Ideal S6144 .f32) (r : Fin 8192) (k : Fin 6144) :
    norm (shapeCast S8192x6144 x shapeCasts_S8192x1x6144_S8192x6144) (shapeCast S1x6144 g shapeCasts_S6144_S1x6144) (ix2 r k)
      = Cert.ReferenceIdeal.Two.act x g (ix3 r 0 k) := by
  rw [Cert.ReferenceIdeal.Two.act_apply]
  pointwise [norm]

/-- The kernel's result is the reference's. -/
theorem out_eq (x : Vec Ideal S8192x1x6144 .bf16) (g : Vec Ideal S6144 .f32) (q : Vec Ideal S768x16384 .i32) (s : Vec Ideal S96x16384 .bf16)
    (z : Vec Ideal S96x2048 .i32) :
    outOf x g q s z = Cert.ReferenceIdeal.Two.result (Cert.ReferenceIdeal.Two.act x g) (Cert.ReferenceIdeal.Two.weights q s z) := by
  funext i
  obtain ⟨r, o, n, rfl⟩ : ∃ (r : Fin 8192) (o : Fin 1) (n : Fin 16384), i = ix3 r o n := ⟨i 0, i 1, i 2, eq_ix3 i⟩
  obtain rfl : o = 0 := Subsingleton.elim _ _
  rw [Cert.ReferenceIdeal.Two.result_apply]
  have e : outOf x g q s z (ix3 r 0 n)
      = prod (norm (shapeCast S8192x6144 x shapeCasts_S8192x1x6144_S8192x6144) (shapeCast S1x6144 g shapeCasts_S6144_S1x6144)) q s z (ix2 r n) := by
    pointwise [outOf]
  rw [e]
  refine Finset.sum_congr rfl fun k _ => ?_
  rw [Cert.ReferenceIdeal.Two.weights_apply]
  exact congrArg (· * _) (norm_cast_apply x g r k)

end Cert.KernelIdeal.Two

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.RefValue
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel leaves its arguments unchanged and every counter at zero. -/
theorem frame_p : Cert.quiescent_Kernel := fun m ρ _ => Cert.Kernel.Two.frame m ρ

/-- So does its idealization. -/
theorem frame_pi : Cert.quiescent_KernelIdeal := fun m ρ _ => Cert.KernelIdeal.Two.frame m ρ

/-- So does the reference, which declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the kernel and the reference leave the same result. -/
theorem algebraic : Cert.algebraic_KernelIdeal_ReferenceIdeal := by
  intro m g m' g' _ hagree
  refine ⟨_, (θ_run Cert.KernelIdeal.defs _ _).mono (fun r h c => h.1 c) (Cert.KernelIdeal.Two.run_all (F := Ideal) m g), ?_⟩
  refine (θ_run Cert.ReferenceIdeal.defs _ _).mono (fun r h c => ⟨?_, (h c).2⟩) (Cert.ReferenceIdeal.Value.run (F := Ideal) m' g')
  obtain ⟨e0, e1, e2, e3, e4⟩ := hagree c
  refine (h c).1.trans ?_
  rw [Cert.KernelIdeal.Two.W4_v4, Cert.KernelIdeal.Two.out_eq, e0, e1, e2, e3, e4]
  rfl

theorem claim : Cert.Claim := ⟨Cert.Kernel.Gen.facts, Cert.KernelIdeal.Gen.facts, Cert.ReferenceIdeal.Gen.facts,
  frame_p, frame_pi, frame_ri, trivial, algebraic⟩

end Cert.Proof

end
